-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_atoms_in_table [hPre_atoms_in_table : Cert.Pre_atoms_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_atoms_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_atoms_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_atoms_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_atoms_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_atoms_in_table [hPre_atoms_in_table : Cert.Pre_atoms_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_atoms_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_atoms_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_atoms_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_atoms_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_atoms_in_table [hKernelIdeal : Cert.KernelIdeal.Facts] [hPre_atoms_in_table : Cert.Pre_atoms_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_atoms_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_atoms_in_table [hReferenceIdeal : Cert.ReferenceIdeal.Facts] [hPre_atoms_in_table : Cert.Pre_atoms_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_atoms_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_atoms_in_table [hKernelIdeal : Cert.KernelIdeal.Facts] [hReferenceIdeal : Cert.ReferenceIdeal.Facts] [hPre_atoms_in_table : Cert.Pre_atoms_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_atoms_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_atoms_in_table : Cert.Pre_atoms_in_table.Facts),
    quiescent_Kernel (hKernel := hKernel)
    ∧ quiescent_KernelIdeal (hKernelIdeal := hKernelIdeal)
    ∧ quiescent_KernelIdeal_pre_atoms_in_table (hKernelIdeal := hKernelIdeal) (hPre_atoms_in_table := hPre_atoms_in_table)
    ∧ quiescent_ReferenceIdeal (hReferenceIdeal := hReferenceIdeal)
    ∧ quiescent_ReferenceIdeal_pre_atoms_in_table (hReferenceIdeal := hReferenceIdeal) (hPre_atoms_in_table := hPre_atoms_in_table)
    ∧ preserves_Kernel_KernelIdeal
    ∧ algebraic_KernelIdeal_ReferenceIdeal_pre_atoms_in_table (hKernelIdeal := hKernelIdeal) (hReferenceIdeal := hReferenceIdeal) (hPre_atoms_in_table := hPre_atoms_in_table)
-- ==== Pre_atoms_in_table.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384 : S_.BroadcastsInDim S16384 (![] : Fin 0 → Fin S16384.rank)
  bcast_S_S16384x3 : S_.BroadcastsInDim S16384x3 (![] : Fin 0 → Fin S16384x3.rank)
  bcast_S_S3x256 : S_.BroadcastsInDim S3x256 (![] : Fin 0 → Fin S3x256.rank)
  bcast_S_S256x128 : S_.BroadcastsInDim S256x128 (![] : Fin 0 → Fin S256x128.rank)

variable [Facts]

def fn {F : FTy → Type} [FloatOps F] (main_arg0 : IVec S16384 32) (main_arg1 : FVec F S16384x3 .f32) (main_arg2 : IVec S16384 32) (main_arg3 : FVec F S100x256 .f32) (main_arg4 : FVec F S3x256 .f32) (main_arg5 : FVec F S256x128 .f32) (main_arg6 : FVec F S128 .f32) (main_arg7 : FVec F S128x1 .f32) (main_arg8 : FVec F S1 .f32) : IVec S16384 1 × IVec S16384x3 1 × IVec S3x256 1 × IVec S256x128 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100#32
  let main_v2 : IVec S16384 32 := broadcastInDim S16384 ![] bcast_S_S16384 main_c_0
  let main_v3 : IVec S16384 1 := cmpi .slt main_arg0 main_v2
  let main_v4 : IVec S16384 1 := andi main_v1 main_v3
  let main_v5 : FVec F S16384x3 .f32 := Host.absf main_arg1
  let main_cst : FVec F S_ .f32 := constant S_ .f32 0x7F800000#32
  let main_v6 : FVec F S16384x3 .f32 := broadcastInDim S16384x3 ![] bcast_S_S16384x3 main_cst
  let main_v7 : IVec S16384x3 1 := cmpf .olt main_v5 main_v6
  let main_v8 : FVec F S3x256 .f32 := Host.absf main_arg4
  let main_cst_1 : FVec F S_ .f32 := constant S_ .f32 0x7F800000#32
  let main_v9 : FVec F S3x256 .f32 := broadcastInDim S3x256 ![] bcast_S_S3x256 main_cst_1
  let main_v10 : IVec S3x256 1 := cmpf .olt main_v8 main_v9
  let main_v11 : FVec F S256x128 .f32 := Host.absf main_arg5
  let main_cst_2 : FVec F S_ .f32 := constant S_ .f32 0x7F800000#32
  let main_v12 : FVec F S256x128 .f32 := broadcastInDim S256x128 ![] bcast_S_S256x128 main_cst_2
  let main_v13 : IVec S256x128 1 := cmpf .olt main_v11 main_v12
  (main_v4, main_v7, main_v10, main_v13)
-- ==== Kernel.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x16384 : Shape := ⟨2, ![1, 16384]⟩
abbrev S1x128 : Shape := ⟨2, ![1, 128]⟩
abbrev S1x1 : Shape := ⟨2, ![1, 1]⟩
abbrev S16x1 : Shape := ⟨2, ![16, 1]⟩
abbrev S128x100 : Shape := ⟨2, ![128, 100]⟩
abbrev S128x3 : Shape := ⟨2, ![128, 3]⟩
abbrev S100x16384 : Shape := ⟨2, ![100, 16384]⟩
abbrev S128x16384 : Shape := ⟨2, ![128, 16384]⟩
abbrev S16x16384 : Shape := ⟨2, ![16, 16384]⟩
abbrev S16 : Shape := ⟨1, ![16]⟩

abbrev nBuf : Space → Nat
  | .hbm => 14
  | .vmem => 10
  | .smem => 0
  | _ => 0

abbrev bufTy : (tb : Table) → Fin (tcTables nBuf tb) → BufTy
  | .hbm, ⟨0, _⟩ => ⟨S16384, .i32⟩
  | .hbm, ⟨1, _⟩ => ⟨S16384x3, .f32⟩
  | .hbm, ⟨2, _⟩ => ⟨S16384, .i32⟩
  | .hbm, ⟨3, _⟩ => ⟨S100x256, .f32⟩
  | .hbm, ⟨4, _⟩ => ⟨S3x256, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x16384, .i32⟩
  | .hbm, ⟨10, _⟩ => ⟨S1x16384, .i32⟩
  | .hbm, ⟨11, _⟩ => ⟨S1x128, .f32⟩
  | .hbm, ⟨12, _⟩ => ⟨S1x1, .f32⟩
  | .hbm, ⟨13, _⟩ => ⟨S16x1, .f32⟩
  | .local _ .vmem, ⟨0, _⟩ => ⟨S1x16384, .i32⟩
  | .local _ .vmem, ⟨1, _⟩ => ⟨S16384x3, .f32⟩
  | .local _ .vmem, ⟨2, _⟩ => ⟨S1x16384, .i32⟩
  | .local _ .vmem, ⟨3, _⟩ => ⟨S100x256, .f32⟩
  | .local _ .vmem, ⟨4, _⟩ => ⟨S3x256, .f32⟩
  | .local _ .vmem, ⟨5, _⟩ => ⟨S256x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S16x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S16384 : Shape := ⟨1, ![16384]⟩
abbrev S16384x3 : Shape := ⟨2, ![16384, 3]⟩
abbrev S100x256 : Shape := ⟨2, ![100, 256]⟩
abbrev S3x256 : Shape := ⟨2, ![3, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x256 : Shape := ⟨2, ![16384, 256]⟩
abbrev S16384x128 : Shape := ⟨2, ![16384, 128]⟩
abbrev S1x128 : Shape := ⟨2, ![1, 128]⟩
abbrev S16x1 : Shape := ⟨2, ![16, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x3, .f32⟩
  | .hbm, ⟨2, _⟩ => ⟨S16384, .i32⟩
  | .hbm, ⟨3, _⟩ => ⟨S100x256, .f32⟩
  | .hbm, ⟨4, _⟩ => ⟨S3x256, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x256, .f32⟩
  | .hbm, ⟨28, _⟩ => ⟨S16384x256, .i1⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x128, .f32⟩
  | .hbm, ⟨35, _⟩ => ⟨S1x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x1, .f32⟩
  | .hbm, ⟨48, _⟩ => ⟨S1x1, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16x1, .f32⟩
  | .hbm, ⟨53, _⟩ => ⟨S16384x1, .i32⟩
  | .hbm, ⟨54, _⟩ => ⟨S16x1, .f32⟩
  | .hbm, ⟨55, _⟩ => ⟨S_, .f32⟩
  | .hbm, ⟨56, _⟩ => ⟨S16x1, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩

abbrev nD : Nat := 1
abbrev τ : Topo := Topo.v7x

variable {F : FTy → Type} [FloatOps F]
-- ==== Proof.Spec.lean ====
/-
  The model on scalars, as the reference orders it, and the algebra over the extended reals that the kernel's order needs.
  The kernel multiplies the embedding table and the position weights by the hidden layer's weights before any atom is
  looked at; the reference multiplies each atom's features. The two agree where positions, position weights and hidden
  weights are finite: a finite second summand and a finite factor let a product distribute over a sum whose first
  summand may be infinite.
-/
module

public import Idealize.ShloMosaic.PureOps.Ideal
public import Idealize.ShloMosaic.Lib.Affine

@[expose] public section

noncomputable section

namespace Cert.Proof.Spec

open Idealize.ShloMosaic

/-! ## The model -/

/-- A hidden unit of one atom before its activation: the atom's features (its embedding row `e` plus its position `p`
    through `wp`) times the unit's weights `w`, plus its bias. -/
def preact (e : Fin 256 → EReal) (p : Fin 3 → EReal) (wp : Fin 3 → Fin 256 → EReal) (w : Fin 256 → EReal) (b : EReal) : EReal :=
  ∑ d, (e d + ∑ k, p k * wp k d) * w d + b

/-- One atom's value: the activated hidden units through the output weights, plus the output bias. -/
def atomValue (pre : Fin 128 → EReal) (w2 : Fin 128 → EReal) (b2 : EReal) : EReal :=
  ∑ h, w2 h * (pre h * Ideal.logistic (pre h)) + b2

/-- One segment's result: the values of the atoms whose segment number, read signed, is `s`. -/
def segmentSum (seg : Fin 16384 → BitVec 32) (v : Fin 16384 → EReal) (s : Fin 16) : EReal :=
  ∑ n, if (seg n).toInt = (s.val : Int) then v n else 0

/-! ## Finite extended reals -/

/-- A value whose magnitude is below infinity is a real number. -/
theorem real_of_abs_lt_top {x : EReal} (h : max x (-x) < ⊤) : ∃ r : ℝ, x = (r : EReal) := by
  induction x with
  | bot => simp at h
  | coe r => exact ⟨r, rfl⟩
  | top => simp at h

/-- A real factor distributes over a sum whose second summand is real, whatever the first is. -/
theorem add_real_mul_real (e : EReal) (q w : ℝ) : (e + (q : EReal)) * (w : EReal) = e * w + ((q * w : ℝ) : EReal) := by
  induction e with
  | coe r => norm_cast; ring
  | bot =>
    rw [EReal.bot_add]
    rcases lt_trichotomy w 0 with h | h | h
    · rw [EReal.bot_mul_coe_of_neg h, EReal.top_add_coe]
    · subst h; simp
    · rw [EReal.bot_mul_coe_of_pos h, EReal.bot_add]
  | top =>
    rw [EReal.top_add_coe]
    rcases lt_trichotomy w 0 with h | h | h
    · rw [EReal.top_mul_coe_of_neg h, EReal.bot_add]
    · subst h; simp
    · rw [EReal.top_mul_coe_of_pos h, EReal.top_add_coe]

/-- A finite sum of real numbers, taken over the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The kernel's order of a hidden unit -/

/-- The kernel's order: the embedding row through the hidden weights plus the bias, then the position through the product
    of the two weight matrices. -/
theorem preact_real (e : Fin 256 → EReal) (p : Fin 3 → ℝ) (wp : Fin 3 → Fin 256 → ℝ) (w : Fin 256 → ℝ) (b : EReal) :
    preact e (fun k => p k) (fun k d => wp k d) (fun d => w d) b
      = (∑ d, (w d : EReal) * e d + b) + ∑ k, (∑ d, (w d : EReal) * (wp k d : EReal)) * (p k : EReal) := by
  have h1 : ∀ d, (e d + ∑ k, (p k : EReal) * (wp k d : EReal)) * (w d : EReal)
      = (w d : EReal) * e d + (((∑ k, p k * wp k d) * w d : ℝ) : EReal) := fun d => by
    rw [mul_comm (w d : EReal), ← add_real_mul_real, coe_sum]
    simp only [EReal.coe_mul]
  have h2 : ∑ k, (∑ d, (w d : EReal) * (wp k d : EReal)) * (p k : EReal)
      = ((∑ d, (∑ k, p k * wp k d) * w d : ℝ) : EReal) := by
    simp only [← EReal.coe_mul, ← coe_sum]
    refine congrArg _ ?_
    simp only [Finset.sum_mul]
    rw [Finset.sum_comm]
    exact Finset.sum_congr rfl fun d _ => Finset.sum_congr rfl fun k _ => by ring
  unfold preact
  rw [Finset.sum_congr rfl fun d _ => h1 d, Finset.sum_add_distrib, h2, coe_sum, add_right_comm]

/-- The same of extended reals known to be finite. -/
theorem preact_eq (e : Fin 256 → EReal) (p : Fin 3 → EReal) (wp : Fin 3 → Fin 256 → EReal) (w : Fin 256 → EReal) (b : EReal)
    (hp : ∀ k, ∃ r : ℝ, p k = r) (hwp : ∀ k d, ∃ r : ℝ, wp k d = r) (hw : ∀ d, ∃ r : ℝ, w d = r) :
    preact e p wp w b = (∑ d, w d * e d + b) + ∑ k, (∑ d, w d * wp k d) * p k := by
  choose p' hp using hp
  choose wp' hwp using hwp
  choose w' hw using hw
  obtain rfl : p = fun k => (p' k : EReal) := funext hp
  obtain rfl : wp = fun k d => (wp' k d : EReal) := funext fun k => funext (hwp k)
  obtain rfl : w = fun d => (w' d : EReal) := funext hw
  exact preact_real e p' wp' w' b

/-! ## Indicators -/

/-- The kernel's indicator of a word comparison, as a float: one where the words are equal, zero elsewhere. -/
theorem flag_eq {w : Nat} (x y : BitVec w) :
    FloatOps.sitofp (F := Ideal) FTy.f32 (BitVec.setWidth 32 (IntOp.cmpi .eq x y)) = if x = y then (1 : EReal) else 0 := by
  show (((BitVec.setWidth 32 (IntOp.cmpi .eq x y)).toInt : ℝ) : EReal) = _
  by_cases h : x = y
  · rw [if_pos h, IntOp.cmpi_eq.2 h]; simp
  · rw [if_neg h]
    have h0 : IntOp.cmpi .eq x y = 0#1 := by
      have : ¬ IntOp.cmpi .eq x y = 1#1 := fun e => h (IntOp.cmpi_eq.1 e)
      revert this; generalize IntOp.cmpi .eq x y = c; revert c; decide
    rw [h0]; simp

/-- A sum against the indicators of one row number picks that row. -/
theorem sum_flag (f : Fin 100 → EReal) (z : BitVec 32) (a : Fin 100) (hz : z = BitVec.ofNat 32 a.val) :
    ∑ x : Fin 100, f x * FloatOps.sitofp (F := Ideal) FTy.f32
      (BitVec.setWidth 32 (IntOp.cmpi .eq (BitVec.ofNat 16 x.val) (BitVec.setWidth 16 z))) = f a := by
  have hval : ∀ x : Fin 100, (BitVec.ofNat 16 x.val = BitVec.setWidth 16 z) ↔ x = a := fun x => by
    subst hz
    rw [← BitVec.toNat_inj, BitVec.toNat_ofNat, BitVec.toNat_setWidth, BitVec.toNat_ofNat, Fin.ext_iff]
    have := x.isLt
    have := a.isLt
    omega
  rw [Finset.sum_eq_single a]
  · rw [flag_eq, if_pos ((hval a).2 rfl), mul_one]
  · intro x _ hx
    rw [flag_eq, if_neg fun e => hx ((hval x).1 e), mul_zero]
  · exact fun h => (h (Finset.mem_univ a)).elim

/-- A sum of values times the indicators of their segment numbers is the segment's sum. -/
theorem sum_segment_flag (seg : Fin 16384 → BitVec 32) (v : Fin 16384 → EReal) (s : Fin 16) :
    ∑ n, FloatOps.sitofp (F := Ideal) FTy.f32 (BitVec.setWidth 32 (IntOp.cmpi .eq (BitVec.ofNat 32 s.val) (seg n))) * v n
      = segmentSum seg v s := by
  unfold segmentSum
  refine Finset.sum_congr rfl fun n _ => ?_
  have hs : (BitVec.ofNat 32 s.val).toInt = (s.val : Int) := by
    have := s.isLt
    rw [BitVec.toInt_eq_toNat_of_lt (by rw [BitVec.toNat_ofNat]; omega), BitVec.toNat_ofNat]
    omega
  rw [flag_eq]
  by_cases h : BitVec.ofNat 32 s.val = seg n
  · rw [if_pos h, if_pos (by rw [← h, hs]), one_mul]
  · rw [if_neg h, if_neg fun e => h (BitVec.eq_of_toInt_eq (hs.trans e.symm)), zero_mul]

end Cert.Proof.Spec

end
-- ==== Proof.Pre.lean ====
/-
  What the precondition says of the arguments: each atom's number is a row of the embedding table, and each position,
  position weight and hidden weight is a real number.
-/
module

public import proofs.«01_k».proof.Pre_atoms_in_table
public import proofs.«01_k».proof.Proof.Spec
public import Idealize.ShloMosaic.Lib.Pointwise
public import Idealize.ShloMosaic.Lib.IdealHost

@[expose] public section

noncomputable section

namespace Cert.Proof.Pre

open Idealize.ShloMosaic Cert.Pre_atoms_in_table Cert.Proof.Spec

variable [Facts]
variable (z : IVec S16384 32) (pos : FVec Ideal S16384x3 .f32) (seg : IVec S16384 32) (emb : FVec Ideal S100x256 .f32)
  (wp : FVec Ideal S3x256 .f32) (w1 : FVec Ideal S256x128 .f32) (b1 : FVec Ideal S128 .f32) (w2 : FVec Ideal S128x1 .f32)
  (b2 : FVec Ideal S1 .f32)

/-- The word the precondition compares magnitudes with is infinity. -/
theorem infinity_word : Ideal.ofBits .f32 0x7F800000#32 = (⊤ : EReal) := by
  simp [Ideal.ofBits, Ideal.ieee]

/-- A number in the table's range, read signed, is a row. -/
theorem row_of_range (x : BitVec 32) (h0 : IntOp.cmpi .sge x 0#32 = 1#1) (h1 : IntOp.cmpi .slt x 100#32 = 1#1) :
    ∃ a : Fin 100, x = BitVec.ofNat 32 a.val := by
  rw [IntOp.cmpi_sge] at h0
  rw [IntOp.cmpi_slt] at h1
  have e0 : (0#32).toInt = 0 := by decide
  have e1 : (100#32).toInt = 100 := by decide
  rw [e0] at h0
  rw [e1] at h1
  have hx : x.toInt = (x.toNat : Int) := by
    have hl := x.isLt
    have hc := BitVec.toInt_eq_toNat_cond x
    split at hc <;> omega
  refine ⟨⟨x.toNat, by omega⟩, ?_⟩
  exact BitVec.eq_of_toNat_eq (by rw [BitVec.toNat_ofNat]; exact (Nat.mod_eq_of_lt x.isLt).symm)

/-- Each atom's number is a row of the table. -/
theorem rows (h : (fn z pos seg emb wp w1 b1 w2 b2).1 = fun _ => 1#1) (n : Fin 16384) :
    ∃ a : Fin 100, z (ix1 n) = BitVec.ofNat 32 a.val := by
  have hn := congrFun h (ix1 n)
  pointwise [fn] at hn
  exact row_of_range _ (IntOp.andi_eq_one.mp hn).1 (IntOp.andi_eq_one.mp hn).2

/-- A magnitude found below infinity is a real number's. -/
theorem real_of_flag {x : EReal} (h : Ideal.cmp .olt (max x (-x)) (Ideal.ofBits .f32 0x7F800000#32) = 1#1) :
    ∃ r : ℝ, x = (r : EReal) := by
  rw [infinity_word] at h
  refine real_of_abs_lt_top (by_contra fun hn => ?_)
  have h' : BitVec.ofBool (decide (max x (-x) < ⊤)) = 1#1 := h
  rw [decide_eq_false hn] at h'
  exact absurd h' (by decide)

theorem pos_real (h : (fn z pos seg emb wp w1 b1 w2 b2).2.1 = fun _ => 1#1) (i : S16384x3.Idx) : ∃ r : ℝ, pos i = r := by
  have hn := congrFun h i
  idx_vars i
  pointwise [fn] at hn
  exact real_of_flag hn
theorem wp_real (h : (fn z pos seg emb wp w1 b1 w2 b2).2.2.1 = fun _ => 1#1) (i : S3x256.Idx) : ∃ r : ℝ, wp i = r := by
  have hn := congrFun h i
  idx_vars i
  pointwise [fn] at hn
  exact real_of_flag hn
theorem w1_real (h : (fn z pos seg emb wp w1 b1 w2 b2).2.2.2 = fun _ => 1#1) (i : S256x128.Idx) : ∃ r : ℝ, w1 i = r := by
  have hn := congrFun h i
  idx_vars i
  pointwise [fn] at hn
  exact real_of_flag hn

end Cert.Proof.Pre

end
-- ==== Proof.Payload.lean ====
/-
  What the kernel's body computes from the arrays it loads, read at an index. An atom's value is `atomValue` of its hidden
  units; where the atom's number is a row of the table and positions and weights are finite, each hidden unit is the
  reference's. A segment's result is the sum of the values of its atoms.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.Payload

open Idealize.ShloMosaic Cert.KernelIdeal Cert.KernelIdeal.Gen Cert.Proof.Spec

/-- One atom's value in the kernel: its hidden units are the reference's, of the table's row `a` that its number names. -/
theorem pay2_apply (w1 : Vec Ideal S256x128 .f32) (emb : Vec Ideal S100x256 .f32) (b1 : Vec Ideal S1x128 .f32)
    (wp : Vec Ideal S3x256 .f32) (z : Vec Ideal S1x16384 .i32) (pos : Vec Ideal S16384x3 .f32) (w2 : Vec Ideal S128x1 .f32)
    (b2 : Vec Ideal S1x1 .f32) (n : Fin 16384) (a : Fin 100) (hz : z (ix2 0 n) = BitVec.ofNat 32 a.val)
    (hp : ∀ i, ∃ r : ℝ, pos i = r) (hwp : ∀ i, ∃ r : ℝ, wp i = r) (hw1 : ∀ i, ∃ r : ℝ, w1 i = r) :
    k0_pay2 (F := Ideal) w1 emb b1 w1 wp z pos w2 b2 (ix2 0 n)
      = atomValue (fun h => preact (fun d => emb (ix2 a d)) (fun k => pos (ix2 n k)) (fun k d => wp (ix2 k d))
          (fun d => w1 (ix2 d h)) (b1 (ix2 0 h))) (fun h => w2 (ix2 h 0)) (b2 (ix2 0 0)) := by
  pointwise [k0_pay2]
  unfold atomValue
  refine congrArg (· + b2 (ix2 0 0)) (Finset.sum_congr rfl fun h _ => ?_)
  dsimp only
  rw [sum_flag (fun x => ∑ d, w1 (ix2 d h) * emb (ix2 x d) + b1 (ix2 0 h)) _ a hz,
    preact_eq _ _ _ _ _ (fun k => hp _) (fun k d => hwp _) (fun d => hw1 _)]

/-- A segment's result in the kernel: the sum of the values of its atoms. -/
theorem pay1_apply (v : FVec Ideal S1x16384 .f32) (b : Vec Ideal S1x16384 .i32) (s : Fin 16) :
    k0_pay1 (F := Ideal) v (k0_pay3 (F := Ideal) b) (ix2 s 0)
      = segmentSum (fun n => b (ix2 0 n)) (fun n => v (ix2 0 n)) s := by
  pointwise [k0_pay1, k0_pay3]
  exact sum_segment_flag (fun n => b (ix2 0 n)) (fun n => v (ix2 0 n)) s

end Cert.Proof.Payload

end
-- ==== Proof.KernelArray.lean ====
/-
  The array the kernel leaves. The kernel runs once over whole arrays, so each block it loads is an array and its one store
  is the result. Three of those arrays are arguments given another shape before the kernel is entered.
-/
module

public import proofs.«01_k».proof.Proof.Gen.KernelIdeal.Value
public import proofs.«01_k».proof.Proof.Payload
public import Idealize.ShloMosaic.Lib.StableHlo.ReadAt

@[expose] public section

set_option maxRecDepth 16384

noncomputable section

namespace Cert.Proof.KernelArray

open Idealize.ShloMosaic Idealize.ShloMosaic.TcCoe Idealize.SL.Sem
open Cert.KernelIdeal Cert.KernelIdeal.Gen Cert.Proof.Spec

variable (m : (ℓ : Loc nD τ sig) → Buf (Elt Ideal) ℓ) (c : Dev nD)

/-! ## The blocks are the arrays -/

theorem zero_offsets : (![0, 0] : Fin 2 → Nat) = fun _ => 0 := funext fun a => by fin_cases a <;> rfl

theorem block0 (t : Fin cfg0.N) : iblk m c 0 t = V m c main_v0 := by
  rcases fin_N0 t with rfl
  exact Memref.read_access_unit_zero (Elt Ideal) main_v0 (funext fun a => by fin_cases a <;> decide) (fun a => by fin_cases a <;> decide) _
theorem block1 (t : Fin cfg0.N) : iblk m c 1 t = V m c main_arg1 := by
  rcases fin_N0 t with rfl
  exact Memref.read_access_unit_zero (Elt Ideal) main_arg1 (funext fun a => by fin_cases a <;> decide) (fun a => by fin_cases a <;> decide) _
theorem block2 (t : Fin cfg0.N) : iblk m c 2 t = V m c main_v1 := by
  rcases fin_N0 t with rfl
  exact Memref.read_access_unit_zero (Elt Ideal) main_v1 (funext fun a => by fin_cases a <;> decide) (fun a => by fin_cases a <;> decide) _
theorem block3 (t : Fin cfg0.N) : iblk m c 3 t = V m c main_arg3 := by
  rcases fin_N0 t with rfl
  exact Memref.read_access_unit_zero (Elt Ideal) main_arg3 (funext fun a => by fin_cases a <;> decide) (fun a => by fin_cases a <;> decide) _
theorem block4 (t : Fin cfg0.N) : iblk m c 4 t = V m c main_arg4 := by
  rcases fin_N0 t with rfl
  exact Memref.read_access_unit_zero (Elt Ideal) main_arg4 (funext fun a => by fin_cases a <;> decide) (fun a => by fin_cases a <;> decide) _
theorem block5 (t : Fin cfg0.N) : iblk m c 5 t = V m c main_arg5 := by
  rcases fin_N0 t with rfl
  exact Memref.read_access_unit_zero (Elt Ideal) main_arg5 (funext fun a => by fin_cases a <;> decide) (fun a => by fin_cases a <;> decide) _
theorem block6 (t : Fin cfg0.N) : iblk m c 6 t = V m c main_v2 := by
  rcases fin_N0 t with rfl
  exact Memref.read_access_unit_zero (Elt Ideal) main_v2 (funext fun a => by fin_cases a <;> decide) (fun a => by fin_cases a <;> decide) _
theorem block7 (t : Fin cfg0.N) : iblk m c 7 t = V m c main_arg7 := by
  rcases fin_N0 t with rfl
  exact Memref.read_access_unit_zero (Elt Ideal) main_arg7 (funext fun a => by fin_cases a <;> decide) (fun a => by fin_cases a <;> decide) _
theorem block8 (t : Fin cfg0.N) : iblk m c 8 t = V m c main_v3 := by
  rcases fin_N0 t with rfl
  exact Memref.read_access_unit_zero (Elt Ideal) main_v3 (funext fun a => by fin_cases a <;> decide) (fun a => by fin_cases a <;> decide) _

/-! ## The result array -/

/-- What the body stores, from the arrays as the kernel finds them. -/
abbrev stored : Vec Ideal S16x1 .f32 :=
  k0_pay1 (k0_pay2 (V m c main_arg5) (V m c main_arg3) (V m c main_v2) (V m c main_arg5) (V m c main_arg4) (V m c main_v0)
    (V m c main_arg1) (V m c main_arg7) (V m c main_v3)) (k0_pay3 (V m c main_v1))

/-- The body's store fills its block with `stored`. -/
theorem out_eq (x0 : Vec Ideal S1x16384 .i32) (x1 : Vec Ideal S16384x3 .f32) (x2 : Vec Ideal S1x16384 .i32)
    (x3 : Vec Ideal S100x256 .f32) (x4 : Vec Ideal S3x256 .f32) (x5 : Vec Ideal S256x128 .f32) (x6 : Vec Ideal S1x128 .f32)
    (x7 : Vec Ideal S128x1 .f32) (x8 : Vec Ideal S1x1 .f32) :
    out0_9 x0 x1 x2 x3 x4 x5 x6 x7 x8 = k0_pay1 (k0_pay2 x5 x3 x6 x5 x4 x0 x1 x7 x8) (k0_pay3 x2) := by
  unfold out0_9
  rw [View.canon_unit_zero zero_offsets, View.ld_unit_zero zero_offsets, View.ld_unit_zero zero_offsets,
    View.ld_unit_zero zero_offsets, View.ld_unit_zero zero_offsets, View.ld_unit_zero zero_offsets,
    View.ld_unit_zero zero_offsets, View.ld_unit_zero zero_offsets, View.ld_unit_zero zero_offsets,
    View.ld_unit_zero zero_offsets]

/-- The result array after the run: the one block is the whole array. -/
theorem final : (dats m 0 c).arrAt 9 cfg0.N = stored m c := by
  have hw := Value.blocks9 m c t0_0 (flush0_9 _)
  rw [Value.flushed9, block0, block1, block2, block3, block4, block5, block6, block7, block8, out_eq] at hw
  refine (Eq.trans ?_ hw).trans ?_
  · exact (Memref.read_access_unit_zero (Elt Ideal) main_v4 (funext fun a => by fin_cases a <;> decide) (fun a => by fin_cases a <;> decide) _).symm
  · exact funext fun _ => rfl

/-! ## The arguments given another shape -/

theorem v0_apply (n : Fin 16384) : V m c main_v0 (ix2 0 n) = m ((c : Thread nD τ).loc main_arg0) (ix1 n) := by
  unfold V
  after_reads_at
theorem v1_apply (n : Fin 16384) : V m c main_v1 (ix2 0 n) = m ((c : Thread nD τ).loc main_arg2) (ix1 n) := by
  unfold V
  after_reads_at
theorem v2_apply (h : Fin 128) : V m c main_v2 (ix2 0 h) = m ((c : Thread nD τ).loc main_arg6) (ix1 h) := by
  unfold V
  after_reads_at
theorem v3_apply : V m c main_v3 (ix2 0 0) = m ((c : Thread nD τ).loc main_arg8) (ix1 0) := by
  unfold V
  after_reads_at

end Cert.Proof.KernelArray

end
-- ==== Proof.Pick.lean ====
/-
  The reference's two indexed operations, read at an index: the row gather takes the table's row that the atom's number
  names, and the accumulating scatter leaves at each segment the sum of the values of the atoms carrying its number.
-/
module

public import proofs.«01_k».proof.Proof.Gen.ReferenceIdeal
public import proofs.«01_k».proof.Proof.Spec
public import Idealize.ShloMosaic.Lib.Routing.Ops
public import Idealize.ShloMosaic.Lib.Routing.OpsPair
public import Idealize.ShloMosaic.Lib.ValueIdx

@[expose] public section

set_option maxRecDepth 16384

noncomputable section

namespace Cert.Proof.Pick

open Idealize.ShloMosaic Idealize.ShloMosaic.ValueIdx Cert.ReferenceIdeal Cert.Proof.Spec

/-- The gather at atom `n`, whose start index is row `a` of the table. -/
theorem gather_apply (x : FVec Ideal S100x256 .f32) (idx : IVec S16384x1 32) (n : Fin 16384) (d : Fin 256) (a : Fin 100)
    (h : idx (ix2 n (0 : Fin 1)) = BitVec.ofNat 32 a.val) :
    Host.gather gather_S100x256_S16384x1_S16384x256_1_0_n_n_0_1_1256 x idx (ix2 n d) = x (ix2 a d) :=
  Routing.gather_row gather_S100x256_S16384x1_S16384x256_1_0_n_n_0_1_1256 rfl rfl rfl rfl rfl x idx n d a h (by decide)

/-- Where atom `n`'s value lands: at segment `s` exactly when its segment number, read signed, is `s`. -/
theorem lands (idx : IVec S16384x1 32) (n : Fin 16384) (s : Fin 16) :
    scatter_S16x1_S16384x1_S16384x1_1_0_0_1.resultIdx? (ix2 n (0 : Fin 1)) idx = some (ix2 s (0 : Fin 1))
      ↔ (idx (ix2 n (0 : Fin 1))).toInt = (s.val : Int) := by
  rw [Routing.resultIdx?_ix2]
  have hs0 : scatter_S16x1_S16384x1_S16384x1_1_0_0_1.start (ix2 n (0 : Fin 1)) idx 0 = (idx (ix2 n (0 : Fin 1))).toInt := by
    unfold ScatterDims.start
    rw [dif_pos (by decide)]
    refine congrArg (fun i => (idx i).toInt) (funext fun b => Fin.ext ?_)
    match b with
    | ⟨0, _⟩ => rfl
    | ⟨1, _⟩ => rfl
  have hw0 : scatter_S16x1_S16384x1_S16384x1_1_0_0_1.window (ix2 n (0 : Fin 1)) 0 = 0 := by
    unfold ScatterDims.window
    rw [dif_neg (by decide)]
  have hs1 : scatter_S16x1_S16384x1_S16384x1_1_0_0_1.start (ix2 n (0 : Fin 1)) idx 1 = 0 := by
    unfold ScatterDims.start
    rw [dif_neg (by decide)]
  have hw1 : scatter_S16x1_S16384x1_S16384x1_1_0_0_1.window (ix2 n (0 : Fin 1)) 1 = 0 := by
    unfold ScatterDims.window
    rw [dif_pos (by decide)]
    rfl
  rw [hs0, hw0, hs1, hw1]
  simp

/-- The accumulating scatter onto `x` at segment `s`: `x` plus the sum of the values of the segment's atoms. -/
theorem scatterAdd_apply (x : FVec Ideal S16x1 .f32) (idx : IVec S16384x1 32) (v : FVec Ideal S16384x1 .f32) (s : Fin 16) :
    Host.scatterAdd scatter_S16x1_S16384x1_S16384x1_1_0_0_1 x idx v (ix2 s (0 : Fin 1))
      = x (ix2 s (0 : Fin 1)) + segmentSum (fun n => idx (ix2 n (0 : Fin 1))) (fun n => v (ix2 n (0 : Fin 1))) s := by
  show x (ix2 s (0 : Fin 1)) + ∑ j ∈ Finset.univ.filter (fun j =>
    scatter_S16x1_S16384x1_S16384x1_1_0_0_1.resultIdx? j idx = some (ix2 s (0 : Fin 1))), v j = _
  refine congrArg (x (ix2 s (0 : Fin 1)) + ·) ?_
  unfold segmentSum
  rw [Finset.sum_filter, sum_idx2]
  refine Finset.sum_congr rfl fun n _ => ?_
  rw [Fin.sum_univ_one]
  simp only [lands]

end Cert.Proof.Pick

end
-- ==== Proof.RefValue.lean ====
/-
  What the reference computes, read at an index: the gathered embedding row where the atom's number is a row of the table,
  the two dense layers with their activation, and the sum of each segment's atoms.
-/
module

public import proofs.«01_k».proof.Proof.Gen.ReferenceIdeal.Read
public import proofs.«01_k».proof.Proof.Pick
public import Idealize.ShloMosaic.Lib.Pointwise
public import Idealize.ShloMosaic.Lib.IdealHost
public import Idealize.ShloMosaic.Lib.ReduceAll
public import Idealize.ShloMosaic.Lib.Pointwise.IndexBridge

@[expose] public section

set_option maxRecDepth 16384

noncomputable section

namespace Cert.Proof.RefValue

open Idealize.ShloMosaic Cert.ReferenceIdeal Cert.ReferenceIdeal.Gen Cert.ReferenceIdeal.Read Cert.Proof.Spec

/-! ## The gathered row -/

/-- The start index of atom `n`'s row: its number, never wrapped. -/
theorem start_eq (z : IVec S16384 32) (n : Fin 16384) (a : Fin 100) (hz : z (ix1 n) = BitVec.ofNat 32 a.val) :
    val_main_call0_v5 (F := Ideal) z (ix2 n 0) = BitVec.ofNat 32 a.val := by
  pointwise [val_main_call0_v5, val_main_call0_v4, val_main_call0_v3, val_main_call0_v2, val_main_call0_c_0,
    val_main_call0_v1, val_main_call0_v0, val_main_call0_c]
  rw [hz]
  clear hz
  revert a
  decide +kernel

/-- Atom `n`'s number is found inside the table. -/
theorem inside (z : IVec S16384 32) (hz : ∀ n, ∃ a : Fin 100, z (ix1 n) = BitVec.ofNat 32 a.val) (n : Fin 16384) :
    val_main_call0_v12 (F := Ideal) z (ix1 n) = 1#1 := by
  unfold val_main_call0_v12
  refine Host.reduce_andi_one _ _ _ _ _ rfl fun i => ?_
  idx_vars i
  pointwise [val_main_call0_v11, val_main_call0_v10, val_main_call0_v9, val_main_call0_v8, val_main_call0_v7, val_main_call0_v6,
    val_main_call0_c_1, val_main_call0_c_2]
  obtain ⟨a, ha⟩ := hz i0
  have h1 : i1 = 0 := Subsingleton.elim _ _
  rw [h1, start_eq z i0 a ha]
  clear ha
  revert a
  decide +kernel

/-- Atom `n`'s embedding row. -/
theorem row_apply (z : IVec S16384 32) (emb : FVec Ideal S100x256 .f32)
    (a : Fin 16384 → Fin 100) (hz : ∀ n, z (ix1 n) = BitVec.ofNat 32 (a n).val) (n : Fin 16384) (d : Fin 256) :
    val_main_v0 (F := Ideal) z emb (ix2 n d) = emb (ix2 (a n) d) := by
  pointwise [val_main_v0, val_main_call0_v14]
  rw [inside z (fun n => ⟨a n, hz n⟩) n]
  unfold val_main_call0_v13
  rw [ix2_eq_valueIdx, ix2_eq_valueIdx]
  refine Pick.gather_apply emb _ n d (a n) ?_
  rw [← ix2_eq_valueIdx]
  exact start_eq z n (a n) (hz n)

/-! ## The dense layers -/

/-- One atom's value in the reference. -/
theorem atom_apply (z : IVec S16384 32) (pos : FVec Ideal S16384x3 .f32) (emb : FVec Ideal S100x256 .f32)
    (wp : FVec Ideal S3x256 .f32) (w1 : FVec Ideal S256x128 .f32) (b1 : FVec Ideal S128 .f32) (w2 : FVec Ideal S128x1 .f32)
    (b2 : FVec Ideal S1 .f32) (a : Fin 16384 → Fin 100) (hz : ∀ n, z (ix1 n) = BitVec.ofNat 32 (a n).val) (n : Fin 16384) :
    val_main_v11 (F := Ideal) z pos emb wp w1 b1 w2 b2 (ix2 n 0)
      = atomValue (fun h => preact (fun d => emb (ix2 (a n) d)) (fun k => pos (ix2 n k)) (fun k d => wp (ix2 k d))
          (fun d => w1 (ix2 d h)) (b1 (ix1 h))) (fun h => w2 (ix2 h 0)) (b2 (ix1 0)) := by
  pointwise [val_main_v11, val_main_v10, val_main_v9, val_main_v8, val_main_v7, val_main_call1_v5, val_main_call1_v4,
    val_main_call1_cst_0, val_main_call1_v3, val_main_call1_v2, val_main_call1_cst, val_main_call1_v1, val_main_call1_v0,
    val_main_v6, val_main_v5, val_main_v4, val_main_v3, val_main_v2, val_main_v1]
  simp only [row_apply z emb a hz]
  unfold atomValue preact Ideal.logistic
  refine congrArg (· + b2 (ix1 0)) (Finset.sum_congr rfl fun h _ => ?_)
  dsimp only
  exact mul_comm _ _

/-! ## The segments -/

/-- A segment's result in the reference. -/
theorem result_apply (z : IVec S16384 32) (pos : FVec Ideal S16384x3 .f32) (seg : IVec S16384 32) (emb : FVec Ideal S100x256 .f32)
    (wp : FVec Ideal S3x256 .f32) (w1 : FVec Ideal S256x128 .f32) (b1 : FVec Ideal S128 .f32) (w2 : FVec Ideal S128x1 .f32)
    (b2 : FVec Ideal S1 .f32) (a : Fin 16384 → Fin 100) (hz : ∀ n, z (ix1 n) = BitVec.ofNat 32 (a n).val) (s : Fin 16) :
    val_main_v18 (F := Ideal) z pos seg emb wp w1 b1 w2 b2 (ix2 s 0)
      = segmentSum (fun n => seg (ix1 n)) (fun n => atomValue (fun h => preact (fun d => emb (ix2 (a n) d))
          (fun k => pos (ix2 n k)) (fun k d => wp (ix2 k d)) (fun d => w1 (ix2 d h)) (b1 (ix1 h)))
          (fun h => w2 (ix2 h 0)) (b2 (ix1 0))) s := by
  have hseg : ∀ n, val_main_v13 (F := Ideal) seg (ix2 n 0) = seg (ix1 n) := fun n => by
    pointwise [val_main_v13]
  have hzero : ∀ s, val_main_v12 (F := Ideal) (ix2 s 0) = 0 := fun s => by
    pointwise [val_main_v12, val_main_cst]
  pointwise [val_main_v18, val_main_v17, val_main_v16, val_main_v15, val_main_v14, val_main_cst_0, val_main_cst_1]
  rw [ix2_eq_valueIdx, Pick.scatterAdd_apply]
  simp only [← ix2_eq_valueIdx]
  rw [hzero, zero_add]
  simp only [hseg, atom_apply z pos emb wp w1 b1 w2 b2 a hz]

end Cert.Proof.RefValue

end
-- ==== Proof.Equation.lean ====
/-
  The equation: where every atom's number is a row of the table and positions, position weights and hidden weights are
  finite, what the kernel stores is what the reference computes from the same arguments.
-/
module

public import proofs.«01_k».proof.Proof.KernelArray
public import proofs.«01_k».proof.Proof.RefValue

@[expose] public section

set_option maxRecDepth 16384

noncomputable section

namespace Cert.Proof.Equation

open Idealize.ShloMosaic Idealize.ShloMosaic.TcCoe Idealize.SL.Sem
open Cert.KernelIdeal Cert.KernelIdeal.Gen Cert.Proof.Spec Cert.Proof.KernelArray

theorem stored_eq (m : (ℓ : Loc nD τ sig) → Buf (Elt Ideal) ℓ) (c : Dev nD)
    (a : Fin 16384 → Fin 100) (hz : ∀ n, m ((c : Thread nD τ).loc main_arg0) (ix1 n) = BitVec.ofNat 32 (a n).val)
    (hp : ∀ i, ∃ r : ℝ, m ((c : Thread nD τ).loc main_arg1) i = (r : EReal))
    (hwp : ∀ i, ∃ r : ℝ, m ((c : Thread nD τ).loc main_arg4) i = (r : EReal))
    (hw1 : ∀ i, ∃ r : ℝ, m ((c : Thread nD τ).loc main_arg5) i = (r : EReal)) :
    stored m c = Cert.ReferenceIdeal.Read.val_main_v18 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  funext j
  obtain ⟨s, o, rfl⟩ : ∃ (s : Fin 16) (o : Fin 1), j = ix2 s o := ⟨j 0, j 1, eq_ix2 j⟩
  have ho : o = 0 := Subsingleton.elim _ _
  subst ho
  refine Eq.trans ?_ (RefValue.result_apply _ _ _ _ _ _ _ _ _ a hz s).symm
  unfold stored
  rw [Payload.pay1_apply]
  refine congrArg₂ (fun u v => segmentSum u v s) (funext fun n => v1_apply m c n) (funext fun n => ?_)
  rw [V_main_arg1, V_main_arg3, V_main_arg4, V_main_arg5, V_main_arg7]
  rw [Payload.pay2_apply _ _ _ _ _ _ _ _ n (a n) ((v0_apply m c n).trans (hz n)) hp hwp hw1, v3_apply]
  refine congrArg (fun f => atomValue f _ _) (funext fun h => ?_)
  exact congrArg (preact _ _ _ _) (v2_apply m c h)

end Cert.Proof.Equation

end
-- ==== Proof.lean ====
/-
  The certificate, assembled. The frames are the programs' own runs; the value claim sets the kernel's result array beside
  the reference's. The mathematics is in the modules under Proof/: `Spec` (the model and its algebra), `Payload` and
  `KernelArray` (what the kernel computes and leaves), `Pick` and `RefValue` (what the reference computes), `Pre` (what
  the precondition says), `Equation` (the two agree).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_atoms_in_table
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-! ## The frames -/

theorem kernel_frame : Cert.quiescent_Kernel (hKernel := Cert.Kernel.Gen.facts) :=
  fun m ρ _ => Cert.Kernel.Gen.frame m ρ

theorem kernelIdeal_frame : Cert.quiescent_KernelIdeal (hKernelIdeal := Cert.KernelIdeal.Gen.facts) :=
  fun m ρ _ => Cert.KernelIdeal.Gen.frame m ρ

theorem kernelIdeal_frame_pre : Cert.quiescent_KernelIdeal_pre_atoms_in_table (hKernelIdeal := Cert.KernelIdeal.Gen.facts)
    (hPre_atoms_in_table := Cert.Pre_atoms_in_table.Gen.facts) :=
  fun m ρ _ => Cert.KernelIdeal.Gen.frame m ρ

theorem referenceIdeal_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem referenceIdeal_frame_pre : Cert.quiescent_ReferenceIdeal_pre_atoms_in_table
    (hReferenceIdeal := Cert.ReferenceIdeal.Gen.facts) (hPre_atoms_in_table := Cert.Pre_atoms_in_table.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The value claim -/

theorem algebraic : Cert.algebraic_KernelIdeal_ReferenceIdeal_pre_atoms_in_table
    (hKernelIdeal := Cert.KernelIdeal.Gen.facts) (hReferenceIdeal := Cert.ReferenceIdeal.Gen.facts)
    (hPre_atoms_in_table := Cert.Pre_atoms_in_table.Gen.facts) := by
  intro m g m' g' hpre hargs
  refine ⟨fun c => KernelArray.stored m c, ?_, ?_⟩
  · exact (θ_run Cert.KernelIdeal.defs _ _).mono
      (fun r h c => ⟨(h c).1.trans (KernelArray.final m c), (h c).2⟩) (Cert.KernelIdeal.Value.run_blocks (F := Ideal) m g)
  · refine (θ_run Cert.ReferenceIdeal.defs _ _).mono
      (fun r h c => ⟨(h c).1.trans ?_, (h c).2⟩) (Cert.ReferenceIdeal.Value.run (F := Ideal) m' g')
    obtain ⟨hz, hp, hwp, hw1⟩ := hpre c
    choose a ha using Pre.rows _ _ _ _ _ _ _ _ _ hz
    rw [Cert.ReferenceIdeal.Read.val_main_v18_eq]
    obtain ⟨h0, h1, h2, h3, h4, h5, h6, h7, h8⟩ := hargs c
    rw [h0, h1, h2, h3, h4, h5, h6, h7, h8]
    exact (Equation.stored_eq m c a ha (Pre.pos_real _ _ _ _ _ _ _ _ _ hp) (Pre.wp_real _ _ _ _ _ _ _ _ _ hwp)
      (Pre.w1_real _ _ _ _ _ _ _ _ _ hw1)).symm

/-! ## The certificate -/

theorem claim : Cert.Claim :=
  ⟨Cert.Kernel.Gen.facts, Cert.KernelIdeal.Gen.facts, Cert.ReferenceIdeal.Gen.facts, Cert.Pre_atoms_in_table.Gen.facts,
    kernel_frame, kernelIdeal_frame, kernelIdeal_frame_pre, referenceIdeal_frame, referenceIdeal_frame_pre, trivial, algebraic⟩

end Cert.Proof

end
